-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Reference (m : (ℓ : Loc Cert.Reference.nD Cert.Reference.τ Cert.Reference.sig) → Buf (Elt Bits) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def bitexact_Kernel_Reference [hKernel : Cert.Kernel.Facts] [hReference : Cert.Reference.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)) →
    ∃ (v0 : (c : Dev Cert.Kernel.nD) → Buf (Elt Bits) ((c.tc : Thread Cert.Kernel.nD Cert.Kernel.τ).loc Cert.Kernel.main_v0)),
      θ_run (Cert.Kernel.defs (F := Bits)) (Cert.Kernel.threads (F := Bits)) ⟨m, fun _ => 0, g⟩ (fun r => ∀ c : Dev Cert.Kernel.nD,
          r.2.mem ((c.tc : Thread Cert.Kernel.nD Cert.Kernel.τ).loc Cert.Kernel.main_v0) = v0 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v1) = v0 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1))

def Claim : Prop :=
  ∃ (hKernel : Cert.Kernel.Facts) (hKernelIdeal : Cert.KernelIdeal.Facts) (hReferenceIdeal : Cert.ReferenceIdeal.Facts) (hReference : Cert.Reference.Facts),
    quiescent_Kernel (hKernel := hKernel)
    ∧ quiescent_KernelIdeal (hKernelIdeal := hKernelIdeal)
    ∧ quiescent_ReferenceIdeal (hReferenceIdeal := hReferenceIdeal)
    ∧ quiescent_Reference (hReference := hReference)
    ∧ preserves_Kernel_KernelIdeal
    ∧ algebraic_KernelIdeal_ReferenceIdeal (hKernelIdeal := hKernelIdeal) (hReferenceIdeal := hReferenceIdeal)
    ∧ bitexact_Kernel_Reference (hKernel := hKernel) (hReference := hReference)
-- ==== Kernel.lean ====
abbrev S4x2048x1024 : Shape := ⟨3, ![4, 2048, 1024]⟩
abbrev S2048x1024 : Shape := ⟨2, ![2048, 1024]⟩
abbrev S56x1024 : Shape := ⟨2, ![56, 1024]⟩
abbrev S16x8x1024 : Shape := ⟨3, ![16, 8, 1024]⟩
abbrev S_ : Shape := ⟨0, ![]⟩
abbrev S1x8x1024 : Shape := ⟨3, ![1, 8, 1024]⟩
abbrev S8x1024 : Shape := ⟨2, ![8, 1024]⟩

abbrev nBuf : Table → Nat
  | .hbm => 3
  | .shared => 1
  | .local .scVector .vmem => 1
  | _ => 0

abbrev bufTy : (tb : Table) → Fin (nBuf tb) → BufTy
  | .hbm, ⟨0, _⟩ => ⟨S4x2048x1024, .f32⟩
  | .hbm, ⟨1, _⟩ => ⟨S2048x1024, .f32⟩
  | .hbm, ⟨2, _⟩ => ⟨S2048x1024, .f32⟩
  | .shared, ⟨0, _⟩ => ⟨S16x8x1024, .f32⟩
  | .local .scVector .vmem, ⟨0, _⟩ => ⟨S56x1024, .f32⟩
  | _, _ => ⟨S4x2048x1024, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 4 → Bool
  | ⟨0, _⟩ => false
  | ⟨1, _⟩ => false
  | ⟨2, _⟩ => false
  | ⟨3, _⟩ => false
  | _ => false

abbrev sig : RefSig :=
  ofTables nBuf rfl bufTy 4 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_arg1_scv : Ref sig .scVector := ⟨.hbm, 1, rfl⟩
abbrev main_v0_scv : Ref sig .scVector := ⟨.hbm, 2, rfl⟩
abbrev cc0_scratch1 : Ref sig .scVector := ⟨.shared, 0, rfl⟩
abbrev cc0_scratch0 : Ref sig .scVector := ⟨.vmem, 0, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c64_i32 : BitVec 32 := 64#32
  let v2 : BitVec 32 := Scalar.muli v1 c64_i32
  let c0_i32 : BitVec 32 := 0#32
  ![v2.toNat, 0]
def k0_off2 (i : grid0.Coords) : Fin 3 → Nat :=
  let arg1 : BitVec 32 := BitVec.ofNat 32 (i 1).val
  let c0_i32_1 : BitVec 32 := 0#32
  let c0_i32_2 : BitVec 32 := 0#32
  ![arg1.toNat, 0, 0]
def k0_off3 (i : grid0.Coords) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c64_i32 : BitVec 32 := 64#32
  let v2 : BitVec 32 := Scalar.muli v1 c64_i32
  let c56_i32 : BitVec 32 := 56#32
  let v5 : BitVec 32 := Scalar.addi v2 c56_i32
  let c0_i32_3 : BitVec 32 := 0#32
  ![v5.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== Reference.lean ====
abbrev S4x2048x1024 : Shape := ⟨3, ![4, 2048, 1024]⟩
abbrev S2048x1024 : Shape := ⟨2, ![2048, 1024]⟩
abbrev S2048 : Shape := ⟨1, ![2048]⟩
abbrev S_ : Shape := ⟨0, ![]⟩
abbrev S2048x1 : Shape := ⟨2, ![2048, 1]⟩
abbrev S1 : Shape := ⟨1, ![1]⟩
abbrev S1x1 : Shape := ⟨2, ![1, 1]⟩

abbrev nBuf : Space → Nat
  | .hbm => 26
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S2048x1024, .f32⟩
  | .hbm, ⟨2, _⟩ => ⟨S2048, .i32⟩
  | .hbm, ⟨3, _⟩ => ⟨S_, .i32⟩
  | .hbm, ⟨4, _⟩ => ⟨S2048, .i32⟩
  | .hbm, ⟨5, _⟩ => ⟨S2048, .i1⟩
  | .hbm, ⟨6, _⟩ => ⟨S_, .i32⟩
  | .hbm, ⟨7, _⟩ => ⟨S2048, .i32⟩
  | .hbm, ⟨8, _⟩ => ⟨S2048, .i32⟩
  | .hbm, ⟨9, _⟩ => ⟨S2048, .i32⟩
  | .hbm, ⟨10, _⟩ => ⟨S2048x1, .i32⟩
  | .hbm, ⟨11, _⟩ => ⟨S1, .i32⟩
  | .hbm, ⟨12, _⟩ => ⟨S_, .i32⟩
  | .hbm, ⟨13, _⟩ => ⟨S2048x1, .i32⟩
  | .hbm, ⟨14, _⟩ => ⟨S2048x1, .i1⟩
  | .hbm, ⟨15, _⟩ => ⟨S1x1, .i32⟩
  | .hbm, ⟨16, _⟩ => ⟨S2048x1, .i32⟩
  | .hbm, ⟨17, _⟩ => ⟨S2048x1, .i1⟩
  | .hbm, ⟨18, _⟩ => ⟨S2048x1, .i1⟩
  | .hbm, ⟨19, _⟩ => ⟨S_, .i1⟩
  | .hbm, ⟨20, _⟩ => ⟨S2048, .i1⟩
  | .hbm, ⟨21, _⟩ => ⟨S2048x1024, .f32⟩
  | .hbm, ⟨22, _⟩ => ⟨S2048x1024, .i1⟩
  | .hbm, ⟨23, _⟩ => ⟨S_, .f32⟩
  | .hbm, ⟨24, _⟩ => ⟨S2048x1024, .f32⟩
  | .hbm, ⟨25, _⟩ => ⟨S2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_3 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_call0_cst : Ref sig .tc := ⟨.hbm, 23, rfl⟩
abbrev main_call0_v15 : Ref sig .tc := ⟨.hbm, 24, rfl⟩
abbrev main_v1 : Ref sig .tc := ⟨.hbm, 25, rfl⟩

abbrev nD : Nat := 1
abbrev τ : Topo := Topo.v7x

variable {F : FTy → Type} [FloatOps F]
-- ==== Proof.KernelRun.lean ====
/-
  The run of the position-embedding copy kernel. Tile `s` of SparseCore `c` owns the 64 consecutive rows of the table
  that start at row `1024 c + 64 s`. It moves the first 56 of them through a buffer of its own and the last 8 through
  its slab of the vector memory its SparseCore's tiles share, and so the result array ends with the table's rows, each
  in its own place. The run is proved once, over any float values, and ends with the result array equal to the table,
  both arguments unchanged and every semaphore counter at zero.
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

noncomputable section

namespace Cert.Proof.Copy

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program's parts, named -/

/-- The labels of the program's calls. -/
abbrev ΛP : Labels := Pipeline.Sig Λ₀ (Fin 0) fun p => (pcfgs (F := F) p).Adm
/-- The one SparseCore launch of the program. -/
abbrev K : SparseCore.Cfg τ sig (ΛP (F := F)) 1 := sc (F := F)
/-- The bodies the labels stand for. -/
abbrev D [FloatOps F] : Defs nD τ sig (Elt F) (ΛP (F := F)) := Pipeline.defs pcfgs defs₀
/-- No loop of the bodies needs a measure. -/
abbrev 𝒱₀ : Variants := Variants.none
/-- The same for the labels with those of the launch. -/
abbrev 𝒱 : Variants := 𝒱₀.lift
/-- The one value of that measure. -/
abbrev v₀ : 𝒱.V := Sum.inl none

/-- The launch's semaphores are distinct and outlive the kernel, and no buffer of a sequencer is one its tiles share by name. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The ghost state of the launch's handshakes. -/
abbrev UH : Type := URounds (GSem nD τ sig) ℕ
/-- That ghost state, beside the counters of the copies. -/
abbrev UU : Type := UH × Counters

local notation "𝕄" => MT nD τ sig (HIx 1) (Elt F) ℕ UU ℕ

/-- Where the handshakes' ghost state lies in the whole. -/
abbrev EH : Emb UH (MT nD τ sig (HIx 1) (Elt F) ℕ UU ℕ) := embL

/-! ## The arrays, and the rows of them -/

variable (m : (ℓ : Loc nD τ sig) → Buf (Elt F) ℓ) (ρ : Dev nD → PrngReg)

/-- The first argument, which the kernel does not read. -/
abbrev xLoc (d : Dev nD) : Loc nD τ sig := (SparseCore.T d).loc main_arg0
/-- The table. -/
abbrev wLoc (d : Dev nD) : Loc nD τ sig := (SparseCore.T d).loc main_arg1
/-- The result. -/
abbrev oLoc (d : Dev nD) : Loc nD τ sig := (SparseCore.T d).loc main_v0
/-- The memory that the tiles of SparseCore `c` share, as a buffer of the device. -/
abbrev shRef (c : Fin τ.nSC) : DevRef τ sig := ⟨.shared, ⟨0, by decide⟩, c⟩
/-- The same, as a location. -/
abbrev shLoc (d : Dev nD) (c : Fin τ.nSC) : Loc nD τ sig := (d, shRef c)

/-- The table as the tiles see it. -/
abbrev wV : Memref sig .scVector .hbm S2048x1024 .f32 := Memref.whole main_arg1_scv
/-- The result as the tiles see it. -/
abbrev oV : Memref sig .scVector .hbm S2048x1024 .f32 := Memref.whole main_v0_scv
/-- A tile's own buffer. -/
abbrev bV : Memref sig .scVector .vmem S56x1024 .f32 := Memref.whole cc0_scratch0
/-- The shared memory as the tiles see it. -/
abbrev shV : Memref sig .scVector .shared S16x8x1024 .f32 := Memref.whole cc0_scratch1

/-- The elements of the `n` rows from row `lo` on. -/
def rows (lo n : ℕ) : Finset S2048x1024.Idx := Finset.univ.filter fun x => lo ≤ (x 0).val ∧ (x 0).val < lo + n

/-- The elements of slab `s` of the shared memory. -/
def slab (s : ℕ) : Finset S16x8x1024.Idx := Finset.univ.filter fun x => (x 0).val = s

omit m ρ in
/-- Membership in a band of rows, by the row number. -/
theorem mem_rows {lo n : ℕ} {x : S2048x1024.Idx} : x ∈ rows lo n ↔ lo ≤ (x 0).val ∧ (x 0).val < lo + n := by
  simp [rows]
omit m ρ in
/-- Membership in a slab, by its number. -/
theorem mem_slab {s : ℕ} {x : S16x8x1024.Idx} : x ∈ slab s ↔ (x 0).val = s := by simp [slab]

omit m ρ in
/-- `k` bands of `n` rows, one after the other, are the `k n` rows together. -/
theorem rows_bands (lo n k : ℕ) (hn : 0 < n) :
    (Finset.univ : Finset (Fin k)).biUnion (fun i => rows (lo + n * i.val) n) = rows lo (n * k) := by
  ext x
  simp only [Finset.mem_biUnion, Finset.mem_univ, true_and, mem_rows]
  constructor
  · rintro ⟨i, h1, h2⟩
    have : n * (i.val + 1) ≤ n * k := Nat.mul_le_mul_left n i.isLt
    rw [Nat.mul_add, Nat.mul_one] at this
    exact ⟨by omega, by omega⟩
  · rintro ⟨h1, h2⟩
    have hq : ((x 0).val - lo) / n < k := Nat.div_lt_of_lt_mul (by omega)
    have e := Nat.div_add_mod ((x 0).val - lo) n
    have l := Nat.mod_lt ((x 0).val - lo) hn
    exact ⟨⟨_, hq⟩, by dsimp only; omega, by dsimp only; omega⟩

omit m ρ in
/-- Different bands share no row. -/
theorem rows_bands_disjoint (lo n k : ℕ) :
    ∀ i ∈ (Finset.univ : Finset (Fin k)), ∀ j ∈ (Finset.univ : Finset (Fin k)), i ≠ j → Disjoint (rows (lo + n * i.val) n) (rows (lo + n * j.val) n) := by
  intro i _ j _ hij
  refine Finset.disjoint_left.mpr fun x hi hj => hij (Fin.ext ?_)
  rw [mem_rows] at hi hj
  rcases Nat.lt_trichotomy i.val j.val with h | h | h
  · have : n * (i.val + 1) ≤ n * j.val := Nat.mul_le_mul_left n h
    rw [Nat.mul_add, Nat.mul_one] at this; omega
  · exact h
  · have : n * (j.val + 1) ≤ n * i.val := Nat.mul_le_mul_left n h
    rw [Nat.mul_add, Nat.mul_one] at this; omega

omit m ρ in
/-- The 2048 rows are the whole array. -/
theorem rows_all : rows 0 2048 = Finset.univ := by
  ext x
  have : (x 0).val < 2048 := (x 0).isLt
  rw [mem_rows]; simp only [Finset.mem_univ, iff_true]; omega

omit m ρ in
/-- Different slabs share no element. -/
theorem slabs_disjoint :
    ∀ i ∈ (Finset.univ : Finset (Fin 16)), ∀ j ∈ (Finset.univ : Finset (Fin 16)), i ≠ j → Disjoint (slab i.val) (slab j.val) := by
  intro i _ j _ hij
  refine Finset.disjoint_left.mpr fun x hi hj => hij (Fin.ext ?_)
  rw [mem_slab] at hi hj; omega
omit m ρ in
/-- The sixteen slabs are the whole shared memory. -/
theorem slabs_cover : (Finset.univ : Finset (Fin 16)).biUnion (fun i => slab i.val) = Finset.univ := by
  ext x
  simp only [Finset.mem_biUnion, Finset.mem_univ, true_and, mem_slab, iff_true]
  exact ⟨⟨(x 0).val, (x 0).isLt⟩, rfl⟩

/-! ## What the threads hand one another -/

/-- The result array as the run leaves it: the table's contents. -/
def copied (d : Dev nD) : Buf (Elt F) (oLoc d) := fun i => m (wLoc d) i

/-- The rows `B` of the table, at its launch contents, and the same rows of the result, at `f`. -/
abbrev both (d : Dev nD) (B : Finset S2048x1024.Idx) (f : Buf (Elt F) (oLoc d)) : sProp 𝕄 :=
  iprop((wLoc d ↦[B]{fullShare} m (wLoc d)) ∗ oLoc d ↦[B]{fullShare} f)
/-- Slab `s` of SparseCore `c`'s shared memory, at any contents. -/
abbrev slabPts (d : Dev nD) (c : Fin τ.nSC) (s : ℕ) : sProp 𝕄 := iprop(∃ f, shLoc d c ↦[slab s]{fullShare} f)

/-- A union of disjoint sets of rows is held by holding each. -/
theorem both_biUnion (d : Dev nD) (f : Buf (Elt F) (oLoc d)) {k : ℕ} (B : Fin k → Finset S2048x1024.Idx)
    (hB : ∀ i ∈ (Finset.univ : Finset (Fin k)), ∀ j ∈ (Finset.univ : Finset (Fin k)), i ≠ j → Disjoint (B i) (B j)) :
    (both m d (Finset.univ.biUnion B) f : sProp 𝕄) = bigSep Finset.univ fun i : Fin k => both m d (B i) f := by
  unfold both
  rw [bigSep_sep', ← pointsTo_biUnion Finset.univ (ℓ := wLoc d) B hB, ← pointsTo_biUnion Finset.univ (ℓ := oLoc d) B hB]

/-- A SparseCore is handed half of the rows and hands them back copied; a tile is handed 64 rows and a slab. -/
def P : (K (F := F)).Pay (nD := nD) (Val := Elt F) (Name := ℕ) (U := UU) where
  st := fun _ d c => both m d (rows (0 + 1024 * c.val) 1024) (m (oLoc d))
  dn := fun _ d c => both m d (rows (0 + 1024 * c.val) 1024) (copied m d)
  go := fun q d c i => iprop(both m d (rows (0 + 1024 * c.val + 64 * i.val) 64) (m (oLoc d)) ∗ slabPts d ((K (F := F)).core q c) i.val)
  td := fun q d c i => iprop(both m d (rows (0 + 1024 * c.val + 64 * i.val) 64) (copied m d) ∗ slabPts d ((K (F := F)).core q c) i.val)
  x := fun _ _ => iprop(emp)

/-- Everything the handshakes carry may be stored in their invariants. -/
instance P_storable : (P (F := F) m).IsStorable where
  st q d c := (inferInstance : BI.Storable (upEmb : UEmb _ 𝕄) (both m d (rows (0 + 1024 * c.val) 1024) (m (oLoc d))))
  dn q d c := (inferInstance : BI.Storable (upEmb : UEmb _ 𝕄) (both m d (rows (0 + 1024 * c.val) 1024) (copied m d)))
  go q d c i := (inferInstance : BI.Storable (upEmb : UEmb _ 𝕄)
    iprop(both m d (rows (0 + 1024 * c.val + 64 * i.val) 64) (m (oLoc d)) ∗ slabPts d ((K (F := F)).core q c) i.val))
  td q d c i := (inferInstance : BI.Storable (upEmb : UEmb _ 𝕄)
    iprop(both m d (rows (0 + 1024 * c.val + 64 * i.val) 64) (copied m d) ∗ slabPts d ((K (F := F)).core q c) i.val))

/-! ## One tile -/

section Tile

variable (d : Dev nD) (L : grid0.Coords)

/-- The SparseCore of a grid point. -/
abbrev cV (L : grid0.Coords) : Fin τ.nSC := (L 0).castLE hcore0
/-- The tile of a grid point. -/
abbrev jV (L : grid0.Coords) : Fin τ.nSub := (L 1).castLE hsub0

/-- The first row of the tile. -/
abbrev base (L : grid0.Coords) : ℕ := 0 + 1024 * (L 0).val + 64 * (L 1).val

/-- The 56 rows of an array that the tile moves through its own buffer, and the 8 that it moves through its slab. -/
abbrev rectA (L : grid0.Coords) : Rect S2048x1024 := Rect.unit (s := S2048x1024) (k0_off1 L) S56x1024.size (k0_off1_inb L)
/-- The 8 rows that follow, as a rectangle. -/
abbrev rectB (L : grid0.Coords) : Rect S2048x1024 := Rect.unit (s := S2048x1024) (k0_off3 L) S8x1024.size (k0_off3_inb L)
/-- The 56 rows of the table. -/
abbrev wA (L : grid0.Coords) : Memref sig .scVector .hbm S56x1024 .f32 := wV.slice (rectA L) (fun _ => rfl)
/-- The 8 rows of the table. -/
abbrev wB (L : grid0.Coords) : Memref sig .scVector .hbm S8x1024 .f32 := wV.slice (rectB L) (fun _ => rfl)
/-- The 56 rows of the result. -/
abbrev oA (L : grid0.Coords) : Memref sig .scVector .hbm S56x1024 .f32 := oV.slice (rectA L) (fun _ => rfl)
/-- The 8 rows of the result. -/
abbrev oB (L : grid0.Coords) : Memref sig .scVector .hbm S8x1024 .f32 := oV.slice (rectB L) (fun _ => rfl)
/-- The tile's slab, as a rectangle of the shared memory. -/
abbrev rectS (L : grid0.Coords) : Rect S16x8x1024 := Rect.unit (s := S16x8x1024) (k0_off2 L) S1x8x1024.size (k0_off2_inb L)
/-- The tile's slab, as a block of 8 rows. -/
abbrev shS (L : grid0.Coords) : Memref sig .scVector .shared S8x1024 .f32 := (shV.slice (rectS L) (fun _ => rfl)).squeeze S8x1024 squeezes_S1x8x1024_S8x1024

omit m ρ in
/-- The first rectangle is the 56 rows from the tile's first on. -/
theorem rectA_set : (rectA L).set = rows (base L) 56 := by
  ext x
  have h1 : (x 1).val < 1024 := (x 1).isLt
  rw [Rect.mem_set_unit, mem_rows, k0_off1_eq, Fin.forall_fin_two]
  simp [base] <;> omega
omit m ρ in
/-- The second is the 8 rows after them. -/
theorem rectB_set : (rectB L).set = rows (base L + 56) 8 := by
  ext x
  have h1 : (x 1).val < 1024 := (x 1).isLt
  rw [Rect.mem_set_unit, mem_rows, k0_off3_eq, Fin.forall_fin_two]
  simp [base] <;> omega
omit m ρ in
/-- The third is the slab with the tile's number. -/
theorem rectS_set : (rectS L).set = slab (L 1).val := by
  ext x
  have h1 : (x 1).val < 8 := (x 1).isLt
  have h2 : (x 2).val < 1024 := (x 2).isLt
  rw [Rect.mem_set_unit, mem_slab, k0_off2_eq]
  constructor
  · intro h
    have := h 0
    simp at this; omega
  · intro h a
    match a with
    | 0 => simp; omega
    | 1 => simp; omega
    | 2 => simp; omega

omit m ρ in
/-- The elements of the table's first slice. -/
theorem set_wA : (wA L).view.set = rows (base L) 56 := by
  rw [← rectA_set]
  show ((View.whole (main_arg1_scv : Ref sig .scVector)).slice (rectA L)).set = _
  rw [View.set_slice]; exact Finset.map_refl
omit m ρ in
/-- The elements of the result's first slice. -/
theorem set_oA : (oA L).view.set = rows (base L) 56 := by
  rw [← rectA_set]
  show ((View.whole (main_v0_scv : Ref sig .scVector)).slice (rectA L)).set = _
  rw [View.set_slice]; exact Finset.map_refl
omit m ρ in
/-- The elements of the table's second slice. -/
theorem set_wB : (wB L).view.set = rows (base L + 56) 8 := by
  rw [← rectB_set]
  show ((View.whole (main_arg1_scv : Ref sig .scVector)).slice (rectB L)).set = _
  rw [View.set_slice]; exact Finset.map_refl
omit m ρ in
/-- The elements of the result's second slice. -/
theorem set_oB : (oB L).view.set = rows (base L + 56) 8 := by
  rw [← rectB_set]
  show ((View.whole (main_v0_scv : Ref sig .scVector)).slice (rectB L)).set = _
  rw [View.set_slice]; exact Finset.map_refl
omit m ρ in
/-- The elements of the slab. -/
theorem set_shS : (shS L).view.set = slab (L 1).val := by
  rw [← rectS_set]
  show (((View.whole (cc0_scratch1 : Ref sig .scVector)).slice (rectS L)).reshape S8x1024 squeezes_S1x8x1024_S8x1024.numel_eq).set = _
  rw [View.set_reshape, View.set_slice]; exact Finset.map_refl

omit m ρ in
/-- Holding the table's first slice as the program spells it is holding those 56 rows. -/
theorem pts_wA (f : Buf (Elt F) (wLoc d)) :
    ((wA L).view.loc (V d (cV L) (jV L)) ↦[(wA L).view.set]{fullShare} f : sProp 𝕄) = wLoc d ↦[rows (base L) 56]{fullShare} f := by
  rw [set_wA]
omit m ρ in
/-- The same of the result's first slice. -/
theorem pts_oA (f : Buf (Elt F) (oLoc d)) :
    ((oA L).view.loc (V d (cV L) (jV L)) ↦[(oA L).view.set]{fullShare} f : sProp 𝕄) = oLoc d ↦[rows (base L) 56]{fullShare} f := by
  rw [set_oA]
omit m ρ in
/-- The same of the table's second slice and its 8 rows. -/
theorem pts_wB (f : Buf (Elt F) (wLoc d)) :
    ((wB L).view.loc (V d (cV L) (jV L)) ↦[(wB L).view.set]{fullShare} f : sProp 𝕄) = wLoc d ↦[rows (base L + 56) 8]{fullShare} f := by
  rw [set_wB]
omit m ρ in
/-- The same of the result's second slice. -/
theorem pts_oB (f : Buf (Elt F) (oLoc d)) :
    ((oB L).view.loc (V d (cV L) (jV L)) ↦[(oB L).view.set]{fullShare} f : sProp 𝕄) = oLoc d ↦[rows (base L + 56) 8]{fullShare} f := by
  rw [set_oB]
omit m ρ in
/-- The same of the slab. -/
theorem pts_shS (f : Buf (Elt F) (shLoc d (cV L))) :
    ((shS L).view.loc (V d (cV L) (jV L)) ↦[(shS L).view.set]{fullShare} f : sProp 𝕄) = shLoc d (cV L) ↦[slab (L 1).val]{fullShare} f := by
  rw [set_shS]; rfl
omit m ρ in
/-- The same of the tile's own buffer, which is whole. -/
theorem pts_bV (f : Buf (Elt F) ((V d (cV L) (jV L)).loc cc0_scratch0)) :
    (bV.view.loc (V d (cV L) (jV L)) ↦{fullShare} f : sProp 𝕄) = (V d (cV L) (jV L)).loc cc0_scratch0 ↦{fullShare} f := rfl

/-- The tile's 64 rows are the 56 and the 8. -/
theorem both_split (f : Buf (Elt F) (oLoc d)) :
    (both m d (rows (base L) 64) f : sProp 𝕄) ⊣⊢ iprop(both m d (rows (base L) 56) f ∗ both m d (rows (base L + 56) 8) f) := by
  have hd : Disjoint (rows (base L) 56) (rows (base L + 56) 8) := Finset.disjoint_left.mpr fun x h h' => by
    rw [mem_rows] at h h'; omega
  have hu : rows (base L) 64 = rows (base L) 56 ∪ rows (base L + 56) 8 := by
    ext x; rw [Finset.mem_union, mem_rows, mem_rows, mem_rows]; omega
  rw [hu]
  constructor
  · iintro ⟨Hw, Ho⟩
    ihave Hw' := (pointsTo_union (ℓ := wLoc d) (q := fullShare) (f := m (wLoc d)) hd).1 $$ Hw
    ihave Ho' := (pointsTo_union (ℓ := oLoc d) (q := fullShare) (f := f) hd).1 $$ Ho
    icases Hw' with ⟨Hw1, Hw2⟩
    icases Ho' with ⟨Ho1, Ho2⟩
    isplitl [Hw1 Ho1]
    · isplitl [Hw1] <;> iassumption
    · isplitl [Hw2] <;> iassumption
  · iintro ⟨⟨Hw1, Ho1⟩, ⟨Hw2, Ho2⟩⟩
    isplitl [Hw1 Hw2]
    · iapply (pointsTo_union (ℓ := wLoc d) (q := fullShare) (f := m (wLoc d)) hd).2
      isplitl [Hw1] <;> iassumption
    · iapply (pointsTo_union (ℓ := oLoc d) (q := fullShare) (f := f) hd).2
      isplitl [Ho1] <;> iassumption

omit m ρ in
/-- The first slices of the table and of the result have the same elements, in the same order. -/
theorem wA_emb (y : S56x1024.Idx) : (wA L).view.emb y = (oA L).view.emb y := rfl
omit m ρ in
/-- So have the second slices. -/
theorem wB_emb (y : S8x1024.Idx) : (wB L).view.emb y = (oB L).view.emb y := rfl

/-- The 56 rows of the result, written with what the table's slice reads, hold the table's rows. -/
theorem landedA (g : Buf (Elt F) (oLoc d)) (i : S2048x1024.Idx) (hi : i ∈ rows (base L) 56) :
    (oA L).view.write (Elt F) g ((wA L).view.read (Elt F) (m (wLoc d))) Finset.univ i = copied m d i := by
  rw [← set_oA] at hi
  obtain ⟨y, -, rfl⟩ := Finset.mem_map.mp hi
  rw [View.write_emb_of_mem _ _ (Finset.mem_univ _), View.read_apply]
  rfl
/-- The 8 rows likewise. -/
theorem landedB (g : Buf (Elt F) (oLoc d)) (i : S2048x1024.Idx) (hi : i ∈ rows (base L + 56) 8) :
    (oB L).view.write (Elt F) g ((wB L).view.read (Elt F) (m (wLoc d))) Finset.univ i = copied m d i := by
  rw [← set_oB] at hi
  obtain ⟨y, -, rfl⟩ := Finset.mem_map.mp hi
  rw [View.write_emb_of_mem _ _ (Finset.mem_univ _), View.read_apply]
  rfl

/-- The 56 rows of the result as the copy out leaves them, over any earlier contents, hold the table's. -/
theorem outA (g : Buf (Elt F) (oLoc d)) (p : S56x1024.Idx → Elt F .f32) (hp : p = (wA L).view.read (Elt F) (m (wLoc d))) :
    ((oA L).view.loc (V d (cV L) (jV L)) ↦[(oA L).view.set]{fullShare} (oA L).view.writes (Elt F) g [⟨Rect.whole S56x1024, p⟩] : sProp 𝕄)
      = oLoc d ↦[rows (base L) 56]{fullShare} copied m d := by
  subst hp
  rw [← View.write_univ_eq_writes_whole, View.writes_nil, pts_oA]
  exact pointsTo_congr fun i hi => landedA m d L g i hi
/-- The 8 rows likewise. -/
theorem outB (g : Buf (Elt F) (oLoc d)) (p : S8x1024.Idx → Elt F .f32) (hp : p = (wB L).view.read (Elt F) (m (wLoc d))) :
    ((oB L).view.loc (V d (cV L) (jV L)) ↦[(oB L).view.set]{fullShare} (oB L).view.writes (Elt F) g [⟨Rect.whole S8x1024, p⟩] : sProp 𝕄)
      = oLoc d ↦[rows (base L + 56) 8]{fullShare} copied m d := by
  subst hp
  rw [← View.write_univ_eq_writes_whole, View.writes_nil, pts_oB]
  exact pointsTo_congr fun i hi => landedB m d L g i hi

/-- The semaphore of the copy into the tile's buffer. -/
abbrev cellTi (d : Dev nD) (c : Fin τ.nSC) (i : Fin τ.nSub) : GSem nD τ sig := (V d c i, .dma cc0_scratch2.sem)
/-- That of the copy out of the buffer. -/
abbrev cellTo (d : Dev nD) (c : Fin τ.nSC) (i : Fin τ.nSub) : GSem nD τ sig := (V d c i, .dma cc0_scratch3.sem)
/-- That of the copy into the slab. -/
abbrev cellSi (d : Dev nD) (c : Fin τ.nSC) (i : Fin τ.nSub) : GSem nD τ sig := (V d c i, .dma cc0_scratch4.sem)
/-- That of the copy out of the slab. -/
abbrev cellSo (d : Dev nD) (c : Fin τ.nSC) (i : Fin τ.nSub) : GSem nD τ sig := (V d c i, .dma cc0_scratch5.sem)

omit m ρ in
/-- The four copies' semaphores are among the tile's own: they are them, each at zero, and the rest. -/
theorem ownSems0_V :
    (ownSems0 (V d (cV L) (jV L)) : sProp 𝕄)
      = iprop(semVal (cellTi d (cV L) (jV L)) 0 ∗ semVal (cellTo d (cV L) (jV L)) 0 ∗ semVal (cellSi d (cV L) (jV L)) 0 ∗ semVal (cellSo d (cV L) (jV L)) 0
          ∗ bigSep (((((ownCells (V d (cV L) (jV L))).erase (cellTi d (cV L) (jV L))).erase (cellTo d (cV L) (jV L))).erase (cellSi d (cV L) (jV L))).erase
              (cellSo d (cV L) (jV L))) fun g => semVal g 0) := by
  have own : ∀ k : DmaSem sig, (SemLoc.dma k : SemLoc sig).isScoped .scVector = true →
      ((V d (cV L) (jV L), SemLoc.dma k) : GSem nD τ sig) ∈ ownCells (V d (cV L) (jV L)) := fun k hk => mem_ownCells.mpr ⟨rfl, hk⟩
  have ne : ∀ k k' : DmaSem sig, k ≠ k' → ((V d (cV L) (jV L), SemLoc.dma k) : GSem nD τ sig) ≠ (V d (cV L) (jV L), SemLoc.dma k') :=
    fun k k' h e => h (SemLoc.dma.inj (Prod.mk.inj e).2)
  unfold SparseCore.Cfg.ownSems0
  rw [SparseCore.bigSep_erase' (own cc0_scratch2.sem (by decide)),
    SparseCore.bigSep_erase' (Finset.mem_erase.mpr ⟨ne _ _ (by decide), own cc0_scratch3.sem (by decide)⟩),
    SparseCore.bigSep_erase' (Finset.mem_erase.mpr ⟨ne _ _ (by decide), Finset.mem_erase.mpr ⟨ne _ _ (by decide), own cc0_scratch4.sem (by decide)⟩⟩),
    SparseCore.bigSep_erase' (Finset.mem_erase.mpr ⟨ne _ _ (by decide), Finset.mem_erase.mpr ⟨ne _ _ (by decide),
      Finset.mem_erase.mpr ⟨ne _ _ (by decide), own cc0_scratch5.sem (by decide)⟩⟩⟩)]

omit m ρ in
/-- The tile's buffer is among its own: it is that one, at some contents, and the rest. -/
theorem ownBufs_V :
    (ownBufs (V d (cV L) (jV L)) : sProp 𝕄)
      = iprop((∃ f, (V d (cV L) (jV L)).loc cc0_scratch0 ↦{fullShare} f)
          ∗ bigSep ((ownRefs (τ := τ) (.scVector (cV L) (jV L))).erase ((Proc.scVector (cV L) (jV L)).devRef cc0_scratch0))
              fun b => iprop(∃ f, ((d, b) : Loc nD τ sig) ↦{fullShare} f)) := by
  unfold SparseCore.Cfg.ownBufs
  exact SparseCore.bigSep_erase' (SparseCore.Cfg.mem_ownRefs_of_owner (p := Proc.scVector (cV L) (jV L))
    (b := (Proc.scVector (cV L) (jV L)).devRef cc0_scratch0) rfl)

variable [FloatOps F]

set_option maxHeartbeats 4000000 in
/-- The body of tile `(L 0, L 1)`: from its 64 rows of the table and of the result, its slab, its buffer and its semaphores
    at zero, it ends with the result's rows holding the table's, and the rest as handed in. -/
theorem tile_body (hF : (K (F := F)).Facts) (O : CellTallies nD τ sig (HIx 1)) (W : Waits sig (HIx 1)) (hO : ∀ g, O g none = 0) :
    iprop(levAts (K (F := F)).L (K (F := F)).lev ∗ emp
        ∗ (both m d (rows (base L) 64) (m (oLoc d)) ∗ slabPts d (cV L) (L 1).val)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__pos_embed_copy L wV (Memref.isWhole_whole _) oV (Memref.isWhole_whole _) bV (Memref.isWhole_whole _) shV (Memref.isWhole_whole _)
            cc0_scratch2 cc0_scratch3 cc0_scratch4 cc0_scratch5)
          fun _ => iprop((both m d (rows (base L) 64) (copied m d) ∗ slabPts d (cV L) (L 1).val)
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0__pos_embed_copy_eq_skeleton]; unfold cc0__pos_embed_copy_skel
  rw [(K (F := F)).scopedBufs_V hF d (cV L) (jV L), SparseCore.Cfg.scopedSems0_V (Val := Elt F) d (cV L) (jV L), ownSems0_V, ownBufs_V]
  iintro ⟨#Hlv, -, ⟨Hrows, ⟨%fs, Hs⟩⟩, ⟨⟨%fb, Hb⟩, Hbufs⟩, ⟨Hti, Hto, Hsi, Hso, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hab := (both_split m d L (m (oLoc d))).1 $$ Hrows
  icases Hab with ⟨⟨HwA, HoA⟩, ⟨HwB, HoB⟩⟩
  ihave HwA' := (Entails.of_eq (pts_wA (F := F) d L _).symm) $$ HwA
  ihave HoA' := (Entails.of_eq (pts_oA (F := F) d L _).symm) $$ HoA
  ihave HwB' := (Entails.of_eq (pts_wB (F := F) d L _).symm) $$ HwB
  ihave HoB' := (Entails.of_eq (pts_oB (F := F) d L _).symm) $$ HoB
  ihave Hs' := (Entails.of_eq (pts_shS (F := F) d L _).symm) $$ Hs
  ihave Hb' := (Entails.of_eq (pts_bV (F := F) d L _).symm) $$ Hb
  sl_exec
  sl_step
  -- what each copy out of the tile carries is what the table's slice reads
  have e2 : tile_body.sl.dma0_2 m d L fb = (wA L).view.read (Elt F) (m (wLoc d)) := by
    show bV.view.read (Elt F) (View.write (Elt F) bV.view fb ((wA L).view.read (Elt F) (m (wLoc d))) Finset.univ) = _
    exact View.read_write_univ _ _
  have e3 : tile_body.sl.dma0_3 m d L fs = (wB L).view.read (Elt F) (m (wLoc d)) := by
    show (shS L).view.read (Elt F) ((shS L).view.writes (Elt F) fs [⟨Rect.whole S8x1024, (wB L).view.read (Elt F) (m (wLoc d))⟩]) = _
    exact View.read_writes_whole _ _ _
  ihave HoA := (Entails.of_eq (outA m d L _ _ e2)) $$ HoA'
  ihave HoB := (Entails.of_eq (outB m d L _ _ e3)) $$ HoB'
  ihave HwA := (Entails.of_eq (pts_wA (F := F) d L _)) $$ HwA'
  ihave HwB := (Entails.of_eq (pts_wB (F := F) d L _)) $$ HwB'
  isplitl [HoA HoB HwA HwB Hs']
  · isplitl [HoA HoB HwA HwB]
    · iapply (both_split m d L (copied m d)).2
      isplitl [HoA HwA]
      · isplitl [HwA] <;> iassumption
      · isplitl [HwB] <;> iassumption
    · iexists _; iapply (Entails.of_eq (pts_shS (F := F) d L _)); iexact Hs'
  isplitl [Hb' Hbufs]
  · isplitl [Hb']; · iexists _; iexact Hb'
    iexact Hbufs
  isplitl [Hti Hto Hsi Hso Hsems]
  · isplitl [Hti]; · iexact Hti
    isplitl [Hto]; · iexact Hto
    isplitl [Hsi]; · iexact Hsi
    isplitl [Hso]; · iexact Hso
    iexact Hsems
  iexists _; isplitr
  swap; · iexact HO
  ipureintro; intro p hp
  simp only [Finset.mem_insert] at hp
  rcases hp with rfl | rfl | rfl | rfl | hp
  · exact .inr rfl
  · exact .inr rfl
  · exact .inr rfl
  · exact .inr rfl
  · exact .inl hp

/-! ## The body as the launch asks for it -/

/-- The grid point of SparseCore `c` and tile `s`. -/
def coordsV (c : Fin (grid0.bound 0)) (s : Fin (grid0.bound 1)) : grid0.Coords :=
  fun | 0 => c | 1 => s | ⟨_ + 2, h⟩ => absurd h (Nat.not_lt.2 (Nat.le_add_left _ _))

/-- What the launch runs on a tile is the kernel's body at the tile's grid point. -/
theorem defs₀_vector (c : Fin τ.nSC) (s : Fin τ.nSub) :
    defs₀ (F := F) (.scVector c s) 0 ()
      = SparseCore.onTile hcore0 hsub0 (fun c s => cc0__pos_embed_copy (coordsV c s)
          wV (Memref.isWhole_whole _) oV (Memref.isWhole_whole _) bV (Memref.isWhole_whole _) shV (Memref.isWhole_whole _)
          cc0_scratch2 cc0_scratch3 cc0_scratch4 cc0_scratch5) ⟨⟩ c s := rfl

omit [FloatOps F] m ρ in
/-- A body that waits only outside the launch's stages meets the launch's bound on its waits. -/
theorem waits_weaken {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
/-- Every tile of the launch, whichever its SparseCore, runs the body above. -/
theorem tileObl (hF : (K (F := F)).Facts) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body m d (coordsV ⟨_, hci.1⟩ ⟨_, hci.2⟩) hF O W hO).trans (wp_mono frame _ _ fun _ => waits_weaken)

end Tile

/-! ## A SparseCore's rows and shared memory, dealt to its tiles and collected -/

variable [FloatOps F]

omit [FloatOps F] in
/-- A SparseCore's 1024 rows are its sixteen tiles' 64 each. -/
theorem core_rows (d : Dev nD) (c : ℕ) (f : Buf (Elt F) (oLoc d)) :
    (both m d (rows (0 + 1024 * c) 1024) f : sProp 𝕄) = bigSep Finset.univ fun i : Fin 16 => both m d (rows (0 + 1024 * c + 64 * i.val) 64) f := by
  rw [← both_biUnion m d f (fun i : Fin 16 => rows (0 + 1024 * c + 64 * i.val) 64) (rows_bands_disjoint _ 64 16), rows_bands _ 64 16 (by decide)]

omit [FloatOps F] in
/-- All rows are the two SparseCores' 1024 each. -/
theorem all_rows (d : Dev nD) (f : Buf (Elt F) (oLoc d)) :
    (both m d Finset.univ f : sProp 𝕄) = bigSep Finset.univ fun c : Fin 2 => both m d (rows (0 + 1024 * c.val) 1024) f := by
  rw [← both_biUnion m d f (fun c : Fin 2 => rows (0 + 1024 * c.val) 1024) (rows_bands_disjoint 0 1024 2), rows_bands 0 1024 2 (by decide), rows_all]

omit [FloatOps F] m ρ in
/-- The shared memory whole is its sixteen slabs. -/
theorem sh_slabs (d : Dev nD) (c : Fin τ.nSC) (f : Buf (Elt F) (shLoc d c)) :
    (shLoc d c ↦{fullShare} f : sProp 𝕄) = bigSep Finset.univ fun i : Fin 16 => shLoc d c ↦[slab i.val]{fullShare} f := by
  rw [← pointsTo_biUnion Finset.univ (ℓ := shLoc d c) (fun i : Fin 16 => slab i.val) slabs_disjoint, slabs_cover]

omit [FloatOps F] m ρ in
/-- The shared memory, at any contents, is dealt out slab by slab. -/
theorem slabs_deal (d : Dev nD) (c : Fin τ.nSC) :
    (iprop(∃ f, shLoc d c ↦{fullShare} f) : sProp 𝕄) ⊢ bigSep Finset.univ fun i : Fin 16 => slabPts d c i.val := by
  iintro ⟨%f, H⟩
  ihave H' := ((Entails.of_eq (sh_slabs d c f)).trans (SparseCore.ent (bigSep_mono (Ψ := fun i : Fin 16 => slabPts (F := F) d c i.val)
    fun i _ => BI.BIClass.exists_intro (Φ := fun f => (shLoc d c ↦[slab i.val]{fullShare} f : sProp 𝕄)) f))) $$ H
  iexact H'

omit [FloatOps F] m ρ in
/-- Sixteen slabs, each at any contents, are the shared memory at some contents. -/
theorem slabs_collect (d : Dev nD) (c : Fin τ.nSC) :
    (bigSep Finset.univ fun i : Fin 16 => slabPts d c i.val) ⊢ (iprop(∃ f, shLoc d c ↦{fullShare} f) : sProp 𝕄) := by
  by_cases hne : Nonempty (Buf (Elt F) (shLoc d c))
  swap
  · rw [← Finset.insert_erase (Finset.mem_univ (0 : Fin 16)), SparseCore.bigSep_insert' (Finset.notMem_erase _ _)]
    iintro ⟨⟨%f, -⟩, -⟩
    exact absurd ⟨f⟩ hne
  refine (bigSep_exists_pi Finset.univ (fun (i : Fin 16) (f : Buf (Elt F) (shLoc d c)) => (shLoc d c ↦[slab i.val]{fullShare} f : sProp 𝕄))).trans ?_
  iintro ⟨%fs, H⟩
  ihave H' := (pointsTo_biUnion_join (ℓ := shLoc d c) (q := fullShare) (Val := Elt F) Finset.univ (fun i : Fin 16 => slab i.val) fs (fs 0) slabs_disjoint) $$ H
  icases H' with ⟨%g, -, Hg⟩
  rw [slabs_cover]
  iexists g; iexact Hg

omit [FloatOps F] m ρ in
/-- The shared memory is among the sequencer's own buffers: it is that one, at some contents, and the rest. -/
theorem ownBufs_S (d : Dev nD) (c : Fin τ.nSC) :
    (ownBufs (S d c) : sProp 𝕄)
      = iprop((∃ f, shLoc d c ↦{fullShare} f) ∗ bigSep ((ownRefs (τ := τ) (.scScalar c)).erase (shRef c)) fun b => iprop(∃ f, ((d, b) : Loc nD τ sig) ↦{fullShare} f)) := by
  unfold SparseCore.Cfg.ownBufs
  exact SparseCore.bigSep_erase' ((mem_ownRefs (p := Proc.scScalar c) (b := shRef c)).mpr rfl)

/-- A SparseCore's rows and its shared memory go out to its tiles, and what the tiles hand back is its rows copied and the shared memory. -/
theorem vecSplit : (K (F := F)).VecSplit (P m) 0 := by
  intro d c
  show iprop(both m d (rows (0 + 1024 * c.val) 1024) (m (oLoc d)) ∗ ownBufs (S d ((K (F := F)).core 0 c))) ⊢ |={Set.univ}=> iprop(
      (bigSep Finset.univ fun i : Fin 16 => iprop(both m d (rows (0 + 1024 * c.val + 64 * i.val) 64) (m (oLoc d)) ∗ slabPts d ((K (F := F)).core 0 c) i.val))
      ∗ ((bigSep Finset.univ fun i : Fin 16 => iprop(both m d (rows (0 + 1024 * c.val + 64 * i.val) 64) (copied m d) ∗ slabPts d ((K (F := F)).core 0 c) i.val))
          -∗ iprop(both m d (rows (0 + 1024 * c.val) 1024) (copied m d) ∗ ownBufs (S d ((K (F := F)).core 0 c)))))
  rw [bigSep_sep' Finset.univ (fun i : Fin 16 => both m d (rows (0 + 1024 * c.val + 64 * i.val) 64) (m (oLoc d))),
    bigSep_sep' Finset.univ (fun i : Fin 16 => both m d (rows (0 + 1024 * c.val + 64 * i.val) 64) (copied m d)),
    ← core_rows m d c.val (m (oLoc d)), ← core_rows m d c.val (copied m d), ownBufs_S]
  iintro ⟨Hrows, Hsh, Hrest⟩; imodintro
  isplitl [Hrows Hsh]
  · isplitl [Hrows]; · iexact Hrows
    iapply (slabs_deal d ((K (F := F)).core 0 c)); iexact Hsh
  iintro ⟨Hrows, Hsh⟩
  isplitl [Hrows]; · iexact Hrows
  isplitl [Hsh]; · iapply (slabs_collect d ((K (F := F)).core 0 c)); iexact Hsh
  iexact Hrest

/-! ## The launch's first resources -/

/-- The ghost state at launch: the handshakes' initial one, and no copy counted. -/
def u₀ : UU := (initOf (K (F := F)).hsCells (K (F := F)).hsToks, 1)

/-- It yields what the launch asks for; the kernel itself asks for nothing. -/
theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  have nothing : (bigSep Finset.univ fun thr : Thread nD τ => bigSep Finset.univ fun q : Fin 1 => (P (F := F) m).x q thr) = (iprop(emp) : sProp 𝕄) :=
    (bigSep_congr fun _ _ => bigSep_univ_of_subsingleton (0 : Fin 1)).trans (bigSep_emp_const _)
  have nothing' : (bigSep Finset.univ fun _ : Dev nD => iprop(emp)) = (iprop(emp) : sProp 𝕄) := bigSep_emp_const _
  rw [nothing, nothing']
  unfold u₀
  iintro Hu
  ihave H := (ownU_pair (initOf (K (F := F)).hsCells (K (F := F)).hsToks) (1 : Counters)) $$ Hu
  icases H with ⟨HH, -⟩
  imodintro
  isplitl [HH]; · iexact HH
  isplitr <;> iempintro

/-! ## The program on the TensorCore -/

omit [FloatOps F] m ρ in
/-- The arrays of the program are the two arguments and the result. -/
theorem unscopedBufs_eq (d : Dev nD) (W : (b : Ref sig .tc) → Buf (Elt F) ((d.tc : Thread nD τ).loc b)) :
    (unscopedBufs d W : sProp 𝕄) = iprop((xLoc d ↦{fullShare} W main_arg0) ∗ (wLoc d ↦{fullShare} W main_arg1) ∗ oLoc d ↦{fullShare} W main_v0) := by
  unfold unscopedBufs
  rw [show (Finset.univ.filter fun b : Ref sig .tc => ¬ b.isScoped) = {main_arg0, main_arg1, main_v0} by decide,
    SparseCore.bigSep_insert' (by decide), SparseCore.bigSep_insert' (by decide), bigSep_singleton]

/-- What the SparseCores are handed is the table and the result, whole. -/
theorem st0_eq (d : Dev nD) : (bigSep Finset.univ fun c : Fin ((K (F := F)).nCore 0) => (P m).st 0 d c) = (both m d Finset.univ (m (oLoc d)) : sProp 𝕄) :=
  (all_rows m d (m (oLoc d))).symm
/-- What they hand back is the table and the result holding it. -/
theorem dn0_eq (d : Dev nD) : (bigSep Finset.univ fun c : Fin ((K (F := F)).nCore 0) => (P m).dn 0 d c) = (both m d Finset.univ (copied m d) : sProp 𝕄) :=
  (all_rows m d (copied m d)).symm

/-- What the program ends with: both arguments as launched, the result holding the table. -/
abbrev FIN (d : Dev nD) : sProp 𝕄 := iprop((xLoc d ↦{fullShare} m (xLoc d)) ∗ both m d Finset.univ (copied m d))

/-- The program on the TensorCore hands both arrays to the launch and ends as `FIN` says. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, ⟨Hx, Hw, Ho⟩, Hts, -⟩, -⟩
  iapply ((K (F := F)).wp_run (D (F := F)) 𝒱 (EH := EH) (P := P m) κ d 0) $$ [Hst Hx Hw Ho Hb Hts]
  isplitr; · iexact Hctx
  isplitl [Hst]; · iexact Hst
  isplitl [Hw Ho]
  · rw [st0_eq]
    isplitl [Hw] <;> iassumption
  iintro ⟨Hst, Hdn⟩
  ihave Hdn' := (Entails.of_eq (dn0_eq m d)) $$ Hdn
  imodintro
  isplitl [Hst]; · iexact Hst
  isplitr [Hb Hts]
  · isplitl [Hx] <;> iassumption
  isplitl [Hb] <;> iassumption

/-- What a final memory says of device `d`: both arguments as launched, the result holding the table. -/
def fq (d : Dev nD) (s' : Phys nD τ sig (Elt F)) : Prop :=
  s'.mem.mem (oLoc d) = copied m d ∧ s'.mem.mem (xLoc d) = m (xLoc d) ∧ s'.mem.mem (wLoc d) = m (wLoc d)

omit m ρ [FloatOps F] in
/-- A whole array held at known contents has those contents in memory. -/
theorem holds_whole (s' : Phys nD τ sig (Elt F)) (ℓ : Loc nD τ sig) (f : Buf (Elt F) ℓ) :
    iprop(SI s' ∗ ℓ ↦{fullShare} f) ⊢ (⌜s'.mem.mem ℓ = f⌝ : sProp 𝕄) := by
  iintro H
  ihave H := (SI_pointsTo_agree (st := s') (ℓ := ℓ) (I := Finset.univ) (q := fullShare) (f := f)) $$ H
  icases H with %h
  ipureintro; exact funext fun i => h i (Finset.mem_univ i)

/-- From `FIN` the final memory can be read off. -/
theorem hfin (d : Dev nD) (s' : Phys nD τ sig (Elt F)) : iprop(FIN m d ∗ SI s') ⊢ (⌜fq m d s'⌝ : sProp 𝕄) := by
  iintro ⟨⟨Hx, Hw, Ho⟩, HSI⟩
  ihave H := (persistent_entails_right (holds_whole (F := F) s' (xLoc d) _)) $$ [HSI Hx]
  · isplitl [HSI] <;> iassumption
  icases H with ⟨%hx, HSI, -⟩
  ihave H := (persistent_entails_right (holds_whole (F := F) s' (wLoc d) _)) $$ [HSI Hw]
  · isplitl [HSI] <;> iassumption
  icases H with ⟨%hw, HSI, -⟩
  ihave H := (holds_whole (F := F) s' (oLoc d) _) $$ [HSI Ho]
  · isplitl [HSI] <;> iassumption
  icases H with %ho
  ipureintro; exact ⟨ho, hx, hw⟩

/-! ## The run -/

/-- The final states the run reaches: the result holds the table, both arguments are as launched, every counter is at zero. -/
def QC : PUnit × MemSt nD τ sig (Elt F) → Prop := fun r =>
  (∀ d : Dev nD, r.2.mem (oLoc d) = copied m d ∧ r.2.mem (xLoc d) = m (xLoc d) ∧ r.2.mem (wLoc d) = m (wLoc d)) ∧ r.2.sem = fun _ => 0

/-- For any float values: every weakly fair execution of the program terminates, in such a state. -/
theorem run_main [∀ e, Nonempty (Elt F e)] :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts)
    (fun q _ => match q with | 0 => vecSplit m)
    m ρ main (fun _ => iprop(emp)) (FIN m) (u₀ (F := F)) (sep_elim_left.trans (hu₀ m)) (hmain m ρ) (fq m) (hfin m) (QC m) (fun _ h hz => ⟨h, hz⟩)

end Cert.Proof.Copy

end
-- ==== Proof.Lookup.lean ====
/-
  The reference's value. The reference numbers the positions 0, 1, …, 2047 and looks each up among the table's 2048
  rows. As written out it replaces a negative position by its distance from the end, marks the positions outside
  0 … 2047, looks the rows up, and puts a fixed constant in the marked rows. Every position is its own row number, so
  nothing is replaced, nothing is marked, and the result is the table.
-/
module

public import proofs.«01_k».proof.Defs
public import Idealize.ShloMosaic.Lib.ReduceAll
public import Idealize.ShloMosaic.Lib.Routing.Ops
public import proofs.«01_k».proof.Proof.Gen.ReferenceIdeal
public import proofs.«01_k».proof.Proof.Gen.ReferenceIdeal.Run

@[expose] public section

noncomputable section

namespace Cert.Proof.Lookup

open Cert.ReferenceIdeal Cert.ReferenceIdeal.Gen
open Idealize.ShloMosaic Idealize.ShloMosaic.ValueIdx

variable {F : FTy → Type} [FloatOps F]

/-- The position words, after the replacement of negative ones. -/
abbrev positions : IVec S2048 32 :=
  select (cmpi .slt (iotaInDim S2048 32 0) (broadcastInDim S2048 ![] bcast_S_S2048 (constantI S_ 32 0#32)))
    (addi (iotaInDim S2048 32 0) (broadcastInDim S2048 ![] bcast_S_S2048 (constantI S_ 32 2048#32))) (iotaInDim S2048 32 0)

/-- The same as a column: the rows to look up. -/
abbrev column : IVec S2048x1 32 := broadcastInDim S2048x1 ![0] bcast_S2048_S2048x1_0 positions

/-- No position below 2048 is negative as a signed word. -/
theorem slt_zero : ∀ k : Fin 2048, IntOp.cmpi .slt (BitVec.ofNat 32 k.val) 0#32 = 0#1 := by
  intro k
  have h : (BitVec.ofNat 32 k.val).toInt = k.val := by
    rw [BitVec.toInt_eq_toNat_cond, BitVec.toNat_ofNat]; have := k.isLt; omega
  have h' : ¬ (k.val : Int) < 0 := by omega
  simp only [IntOp.cmpi, BitVec.slt_eq_decide, h]
  rw [show (0#32 : BitVec 32).toInt = 0 from rfl, decide_eq_false h']; rfl

/-- A row number lies between 0 and 2047. -/
theorem in_bounds : ∀ k : Fin 2048,
    IntOp.andi (IntOp.cmpi .sge (BitVec.ofNat 32 k.val) 0#32) (IntOp.cmpi .sle (BitVec.ofNat 32 k.val) 2047#32) = 1#1 := by
  intro k
  have h : (BitVec.ofNat 32 k.val).toInt = k.val := by
    rw [BitVec.toInt_eq_toNat_cond, BitVec.toNat_ofNat]; have := k.isLt; omega
  have h' : (k.val : Int) ≤ 2047 := by have := k.isLt; omega
  simp [IntOp.cmpi, IntOp.andi, BitVec.sle_eq_decide, h, h']

/-- Position `k`'s word is `k`. -/
theorem positions_apply (y : S2048.Idx) : positions y = BitVec.ofNat 32 (y 0).val := by
  show Scalar.select (IntOp.cmpi .slt (BitVec.ofNat 32 (y 0).val) 0#32) _ _ = _
  rw [slt_zero (y 0)]; rfl

/-- Row `k` of the column is the word `k`. -/
theorem column_apply (y : S2048x1.Idx) : column y = BitVec.ofNat 32 (y 0).val := by
  unfold column broadcastInDim
  exact (positions_apply _).trans rfl

/-- The mark of the rows whose position is in range. -/
abbrev inRange : IVec S2048 1 :=
  Host.reduce IntOp.andi (andi (cmpi .sge column (broadcastInDim S2048x1 ![] bcast_S_S2048x1 (constantI S_ 32 0#32)))
      (cmpi .sle column (broadcastInDim S2048x1 ![0, 1] bcast_S1x1_S2048x1_0_1 (broadcastInDim S1x1 ![1] bcast_S1_S1x1_1 (constantI S1 32 2047#32)))))
    (constantI S_ 1 1#1) reducesTo_S2048x1_S2048_d1 h_S_

/-- Every row is in range. -/
theorem inRange_apply (y : S2048.Idx) : inRange y = 1#1 := by
  refine Host.reduce_andi_one _ _ _ _ _ rfl fun i => ?_
  show IntOp.andi (IntOp.cmpi .sge (column i) 0#32) (IntOp.cmpi .sle (column i) 2047#32) = 1#1
  rw [column_apply]
  exact in_bounds (i 0)

/-- The looked-up rows are the table. -/
theorem looked_up (w : S2048x1024.Idx → Elt F .f32) :
    Host.gather gather_S2048x1024_S2048x1_S2048x1024_1_0_n_n_0_1_11024 w column = w := by
  funext y
  have e : y = ix2 (y 0) (y 1) := by
    funext a
    match a with
    | 0 => rfl
    | 1 => rfl
  rw [e]
  exact Routing.gather_row gather_S2048x1024_S2048x1_S2048x1024_1_0_n_n_0_1_11024 rfl rfl rfl rfl rfl w column (y 0) (y 1) (y 0)
    (column_apply _) (by decide)

/-- The reference's result is the table, whatever the table and the constant. -/
theorem result_eq (w z : S2048x1024.Idx → Elt F .f32) :
    select (broadcastInDim S2048x1024 ![0] bcast_S2048_S2048x1024_0 inRange)
      (Host.gather gather_S2048x1024_S2048x1_S2048x1024_1_0_n_n_0_1_11024 w column) z = w := by
  rw [looked_up]
  funext y
  show Scalar.select (inRange _) (w y) (z y) = w y
  rw [inRange_apply]; rfl

open Idealize.SL.Sem in
/-- For any float values: every weakly fair execution of the reference terminates with the result equal to the table and
    both arguments unchanged. -/
theorem run_table (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v1) = (fun i => m ((c.tc : Thread nD τ).loc main_arg1) i)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (result_eq (F := F) _ _), (h c).2⟩) (Value.run m ρ)

end Cert.Proof.Lookup

end
-- ==== Proof.lean ====
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.Reference
public import proofs.«01_k».proof.Proof.Gen.ReferenceIdeal.Run
public import proofs.«01_k».proof.Proof.Gen.Reference.Run
public import proofs.«01_k».proof.Proof.KernelRun
public import proofs.«01_k».proof.Proof.Lookup
public import Idealize.ShloMosaic.Adequacy
public import Idealize.ShloMosaic.Init

@[expose] public section

noncomputable section

namespace Cert.Proof

open Idealize.ShloMosaic Idealize.SL.Sem Cert.Kernel

/-- The kernel at machine words terminates on every weakly fair execution, leaves both arguments as they were, and ends
    with every semaphore counter at zero. -/
theorem frame_kernel : Cert.quiescent_Kernel := fun m ρ _ =>
  (θ_run Cert.KernelIdeal.defs _ _).mono (fun _ h => ⟨fun c => (h.1 c).2, h.2⟩) (Copy.run_main (F := Bits) m ρ)

/-- The same of the kernel over the extended reals. -/
theorem frame_ideal : Cert.quiescent_KernelIdeal := fun m ρ _ =>
  (θ_run Cert.KernelIdeal.defs _ _).mono (fun _ h => ⟨fun c => (h.1 c).2, h.2⟩) (Copy.run_main (F := Ideal) m ρ)

/-- The reference over the extended reals terminates and leaves both arguments as they were; it has no semaphore. -/
theorem frame_reference_ideal : Cert.quiescent_ReferenceIdeal := fun m ρ _ =>
  (θ_run Cert.ReferenceIdeal.defs _ _).mono (fun r h => ⟨fun c => (h c).2, sem_eq_zero_of_no_sems (by decide) r.2⟩)
    (Lookup.run_table (F := Ideal) m ρ)

/-- The same of the reference at machine words. -/
theorem frame_reference : Cert.quiescent_Reference := fun m ρ _ =>
  (θ_run Cert.ReferenceIdeal.defs _ _).mono (fun r h => ⟨fun c => (h c).2, sem_eq_zero_of_no_sems (by decide) r.2⟩)
    (Lookup.run_table (F := Bits) m ρ)

/-- Over the extended reals the kernel's result equals the reference's: both are the table. -/
theorem algebraic : Cert.algebraic_KernelIdeal_ReferenceIdeal := fun m ρ m' ρ' _ same =>
  ⟨fun c => Copy.copied m c,
    (θ_run Cert.KernelIdeal.defs _ _).mono (fun _ h => h.1) (Copy.run_main (F := Ideal) m ρ),
    (θ_run Cert.ReferenceIdeal.defs _ _).mono (fun _ h c => ⟨(h c).1.trans (same c).2, (h c).2⟩) (Lookup.run_table (F := Ideal) m' ρ')⟩

/-- At machine words the kernel's result equals the reference's, bit for bit: both are the table. -/
theorem bitexact : Cert.bitexact_Kernel_Reference := fun m ρ m' ρ' _ same =>
  ⟨fun c => Copy.copied (F := Bits) m c,
    (θ_run Cert.KernelIdeal.defs _ _).mono (fun _ h => h.1) (Copy.run_main (F := Bits) m ρ),
    (θ_run Cert.ReferenceIdeal.defs _ _).mono (fun _ h c => ⟨(h c).1.trans (same c).2, (h c).2⟩) (Lookup.run_table (F := Bits) m' ρ')⟩

/-- Everything `Defs.lean` states. -/
theorem claim : Cert.Claim :=
  ⟨Cert.Kernel.Gen.facts, Cert.KernelIdeal.Gen.facts, Cert.ReferenceIdeal.Gen.facts, Cert.Reference.Gen.facts,
    frame_kernel, frame_ideal, frame_reference_ideal, frame_reference, trivial, algebraic, bitexact⟩

end Cert.Proof

end
